-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x96x384x384 : Shape := ⟨4, ![2, 96, 384, 384]⟩
abbrev S2x384x384x2 : Shape := ⟨4, ![2, 384, 384, 2]⟩
abbrev S2x96x2x2 : Shape := ⟨4, ![2, 96, 2, 2]⟩
abbrev S_ : Shape := ⟨0, ![]⟩

class Facts : Prop where
  slices_S2x96x384x384_S2x96x2x2_0_0_0_0 : S2x96x384x384.Slices ![0, 0, 0, 0] S2x96x2x2
  bcast_S_S2x384x384x2 : S_.BroadcastsInDim S2x384x384x2 (![] : Fin 0 → Fin S2x384x384x2.rank)
  reducesTo_S2x384x384x2_S_d0_1_2_3 : S2x384x384x2.ReducesTo [0, 1, 2, 3] S_
  h_S_ : 0 < S_.numel
  bcast_S_S2x96x2x2 : S_.BroadcastsInDim S2x96x2x2 (![] : Fin 0 → Fin S2x96x2x2.rank)
  reducesTo_S2x96x2x2_S_d0_1_2_3 : S2x96x2x2.ReducesTo [0, 1, 2, 3] S_

variable [Facts]

def fn {F : FTy → Type} [FloatOps F] (main_arg0 : FVec F S2x96x384x384 .f32) (main_arg1 : FVec F S2x384x384x2 .f32) : IVec S_ 1 :=
  let main_v0 : FVec F S2x96x2x2 .f32 := (extractStridedSlice S2x96x2x2 ![0, 0, 0, 0] · slices_S2x96x384x384_S2x96x2x2_0_0_0_0) main_arg0
  let main_cst : FVec F S_ .f32 := constant S_ .f32 0x00000000#32
  let main_v1 : FVec F S2x384x384x2 .f32 := broadcastInDim S2x384x384x2 ![] bcast_S_S2x384x384x2 main_cst
  let main_v2 : IVec S2x384x384x2 1 := cmpf .oge main_arg1 main_v1
  let main_c : IVec S_ 1 := constantI S_ 1 1#1
  let main_v3 : IVec S_ 1 := (fun x v => Host.reduce IntOp.andi x v reducesTo_S2x384x384x2_S_d0_1_2_3 h_S_) main_v2 main_c
  let main_cst_0 : FVec F S_ .f32 := constant S_ .f32 0x3F800000#32
  let main_v4 : FVec F S2x384x384x2 .f32 := broadcastInDim S2x384x384x2 ![] bcast_S_S2x384x384x2 main_cst_0
  let main_v5 : IVec S2x384x384x2 1 := cmpf .olt main_arg1 main_v4
  let main_c_1 : IVec S_ 1 := constantI S_ 1 1#1
  let main_v6 : IVec S_ 1 := (fun x v => Host.reduce IntOp.andi x v reducesTo_S2x384x384x2_S_d0_1_2_3 h_S_) main_v5 main_c_1
  let main_v7 : IVec S_ 1 := andi main_v3 main_v6
  let main_cst_2 : FVec F S_ .f32 := constant S_ .f32 0x7F800000#32
  let main_v8 : FVec F S2x96x2x2 .f32 := broadcastInDim S2x96x2x2 ![] bcast_S_S2x96x2x2 main_cst_2
  let main_v9 : IVec S2x96x2x2 1 := cmpf .olt main_v0 main_v8
  let main_c_3 : IVec S_ 1 := constantI S_ 1 1#1
  let main_v10 : IVec S_ 1 := (fun x v => Host.reduce IntOp.andi x v reducesTo_S2x96x2x2_S_d0_1_2_3 h_S_) main_v9 main_c_3
  let main_v11 : IVec S_ 1 := andi main_v7 main_v10
  let main_cst_4 : FVec F S_ .f32 := constant S_ .f32 0xFF800000#32
  let main_v12 : FVec F S2x96x2x2 .f32 := broadcastInDim S2x96x2x2 ![] bcast_S_S2x96x2x2 main_cst_4
  let main_v13 : IVec S2x96x2x2 1 := cmpf .ogt main_v0 main_v12
  let main_c_5 : IVec S_ 1 := constantI S_ 1 1#1
  let main_v14 : IVec S_ 1 := (fun x v => Host.reduce IntOp.andi x v reducesTo_S2x96x2x2_S_d0_1_2_3 h_S_) main_v13 main_c_5
  let main_v15 : IVec S_ 1 := andi main_v11 main_v14
  main_v15
-- ==== Kernel.lean ====
abbrev S2x96x384x384 : Shape := ⟨4, ![2, 96, 384, 384]⟩
abbrev S2x384x384x2 : Shape := ⟨4, ![2, 384, 384, 2]⟩
abbrev S2x96x2x2 : Shape := ⟨4, ![2, 96, 2, 2]⟩
abbrev S2x96x4 : Shape := ⟨3, ![2, 96, 4]⟩
abbrev S2x2x384x384 : Shape := ⟨4, ![2, 2, 384, 384]⟩
abbrev S1x96x4 : Shape := ⟨3, ![1, 96, 4]⟩
abbrev S1x2x64x384 : Shape := ⟨4, ![1, 2, 64, 384]⟩
abbrev S1x96x64x384 : Shape := ⟨4, ![1, 96, 64, 384]⟩
abbrev S1x1x64x384 : Shape := ⟨4, ![1, 1, 64, 384]⟩
abbrev S64x384 : Shape := ⟨2, ![64, 384]⟩
abbrev S1x1x1 : Shape := ⟨3, ![1, 1, 1]⟩

abbrev nBuf : Space → Nat
  | .hbm => 6
  | .vmem => 4
  | .smem => 2
  | _ => 0

abbrev bufTy : (tb : Table) → Fin (tcTables nBuf tb) → BufTy
  | .hbm, ⟨0, _⟩ => ⟨S2x96x384x384, .f32⟩
  | .hbm, ⟨1, _⟩ => ⟨S2x384x384x2, .f32⟩
  | .hbm, ⟨2, _⟩ => ⟨S2x96x2x2, .f32⟩
  | .hbm, ⟨3, _⟩ => ⟨S2x96x4, .f32⟩
  | .hbm, ⟨4, _⟩ => ⟨S2x2x384x384, .f32⟩
  | .hbm, ⟨5, _⟩ => ⟨S2x96x384x384, .f32⟩
  | .local _ .vmem, ⟨0, _⟩ => ⟨S1x2x64x384, .f32⟩
  | .local _ .vmem, ⟨1, _⟩ => ⟨S1x2x64x384, .f32⟩
  | .local _ .vmem, ⟨2, _⟩ => ⟨S1x96x64x384, .f32⟩
  | .local _ .vmem, ⟨3, _⟩ => ⟨S1x96x64x384, .f32⟩
  | .local _ .smem, ⟨0, _⟩ => ⟨S1x96x4, .f32⟩
  | .local _ .smem, ⟨1, _⟩ => ⟨S1x96x4, .f32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .smem S1x96x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x64x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x96x384x384 : Shape := ⟨4, ![2, 96, 384, 384]⟩
abbrev S2x384x384x2 : Shape := ⟨4, ![2, 384, 384, 2]⟩
abbrev S2x384x384x1 : Shape := ⟨4, ![2, 384, 384, 1]⟩
abbrev S_ : Shape := ⟨0, ![]⟩
abbrev S1x2x384x384 : Shape := ⟨4, ![1, 2, 384, 384]⟩
abbrev S2x384x384 : Shape := ⟨3, ![2, 384, 384]⟩
abbrev S2 : Shape := ⟨1, ![2]⟩
abbrev S2x1x1 : Shape := ⟨3, ![2, 1, 1]⟩
abbrev S96x2x384x384 : Shape := ⟨4, ![96, 2, 384, 384]⟩
abbrev S2x384x384x3 : Shape := ⟨4, ![2, 384, 384, 3]⟩
abbrev S2x1x384x384 : Shape := ⟨4, ![2, 1, 384, 384]⟩

abbrev nBuf : Space → Nat
  | .hbm => 179
  | .vmem => 0
  | .smem => 0
  | _ => 0

abbrev hbmTy0_0 (i : Nat) : BufTy := match i % 128 with
  | 0 => ⟨S2x96x384x384, .f32⟩
  | 1 => ⟨S2x384x384x2, .f32⟩
  | 2 => ⟨S2x384x384x1, .f32⟩
  | 3 => ⟨S2x384x384x1, .f32⟩
  | 4 => ⟨S_, .f32⟩
  | 5 => ⟨S2x384x384x1, .f32⟩
  | 6 => ⟨S2x384x384x1, .i1⟩
  | 7 => ⟨S_, .f32⟩
  | 8 => ⟨S2x384x384x1, .f32⟩
  | 9 => ⟨S2x384x384x1, .i1⟩
  | 10 => ⟨S2x384x384x1, .i1⟩
  | 11 => ⟨S_, .f32⟩
  | 12 => ⟨S2x384x384x1, .f32⟩
  | 13 => ⟨S2x384x384x1, .i1⟩
  | 14 => ⟨S2x384x384x1, .i1⟩
  | 15 => ⟨S_, .f32⟩
  | 16 => ⟨S2x384x384x1, .f32⟩
  | 17 => ⟨S2x384x384x1, .i1⟩
  | 18 => ⟨S2x384x384x1, .i1⟩
  | 19 => ⟨S2x384x384x1, .f32⟩
  | 20 => ⟨S2x384x384x1, .f32⟩
  | 21 => ⟨S_, .f32⟩
  | 22 => ⟨S2x384x384x1, .f32⟩
  | 23 => ⟨S2x384x384x1, .f32⟩
  | 24 => ⟨S2x384x384x1, .f32⟩
  | 25 => ⟨S_, .f32⟩
  | 26 => ⟨S2x384x384x1, .f32⟩
  | 27 => ⟨S2x384x384x1, .f32⟩
  | 28 => ⟨S2x384x384x1, .f32⟩
  | 29 => ⟨S2x384x384x1, .f32⟩
  | 30 => ⟨S2x384x384x1, .f32⟩
  | 31 => ⟨S1x2x384x384, .f32⟩
  | 32 => ⟨S2x384x384x1, .f32⟩
  | 33 => ⟨S2x384x384x1, .f32⟩
  | 34 => ⟨S2x384x384x1, .f32⟩
  | 35 => ⟨S1x2x384x384, .f32⟩
  | 36 => ⟨S2x384x384x1, .f32⟩
  | 37 => ⟨S2x384x384x1, .f32⟩
  | 38 => ⟨S2x384x384x1, .f32⟩
  | 39 => ⟨S1x2x384x384, .f32⟩
  | 40 => ⟨S2x384x384x1, .f32⟩
  | 41 => ⟨S2x384x384x1, .f32⟩
  | 42 => ⟨S2x384x384x1, .f32⟩
  | 43 => ⟨S1x2x384x384, .f32⟩
  | 44 => ⟨S2x384x384x1, .f32⟩
  | 45 => ⟨S2x384x384, .f32⟩
  | 46 => ⟨S2x384x384, .i32⟩
  | 47 => ⟨S2x384x384x1, .f32⟩
  | 48 => ⟨S2x384x384, .f32⟩
  | 49 => ⟨S2x384x384, .i32⟩
  | 50 => ⟨S2x384x384x1, .f32⟩
  | 51 => ⟨S2x384x384, .f32⟩
  | 52 => ⟨S2x384x384, .i32⟩
  | 53 => ⟨S2x384x384x1, .f32⟩
  | 54 => ⟨S2x384x384, .f32⟩
  | 55 => ⟨S2x384x384, .i32⟩
  | 56 => ⟨S2, .i32⟩
  | 57 => ⟨S2x1x1, .i32⟩
  | 58 => ⟨S2x384x384, .i32⟩
  | 59 => ⟨S96x2x384x384, .f32⟩
  | 60 => ⟨S_, .i32⟩
  | 61 => ⟨S2x384x384, .i32⟩
  | 62 => ⟨S2x384x384, .i1⟩
  | 63 => ⟨S_, .i32⟩
  | 64 => ⟨S2x384x384, .i32⟩
  | 65 => ⟨S2x384x384, .i32⟩
  | 66 => ⟨S2x384x384, .i32⟩
  | 67 => ⟨S_, .i32⟩
  | 68 => ⟨S2x384x384, .i32⟩
  | 69 => ⟨S2x384x384, .i1⟩
  | 70 => ⟨S_, .i32⟩
  | 71 => ⟨S2x384x384, .i32⟩
  | 72 => ⟨S2x384x384, .i32⟩
  | 73 => ⟨S2x384x384, .i32⟩
  | 74 => ⟨S_, .i32⟩
  | 75 => ⟨S2x384x384, .i32⟩
  | 76 => ⟨S2x384x384, .i1⟩
  | 77 => ⟨S_, .i32⟩
  | 78 => ⟨S2x384x384, .i32⟩
  | 79 => ⟨S2x384x384, .i32⟩
  | 80 => ⟨S2x384x384, .i32⟩
  | 81 => ⟨S2x384x384x1, .i32⟩
  | 82 => ⟨S2x384x384x1, .i32⟩
  | 83 => ⟨S2x384x384x1, .i32⟩
  | 84 => ⟨S2x384x384x3, .i32⟩
  | 85 => ⟨S96x2x384x384, .f32⟩
  | 86 => ⟨S96x2x384x384, .f32⟩
  | 87 => ⟨S96x2x384x384, .f32⟩
  | 88 => ⟨S_, .i32⟩
  | 89 => ⟨S2x384x384, .i32⟩
  | 90 => ⟨S2x384x384, .i1⟩
  | 91 => ⟨S_, .i32⟩
  | 92 => ⟨S2x384x384, .i32⟩
  | 93 => ⟨S2x384x384, .i32⟩
  | 94 => ⟨S2x384x384, .i32⟩
  | 95 => ⟨S_, .i32⟩
  | 96 => ⟨S2x384x384, .i32⟩
  | 97 => ⟨S2x384x384, .i1⟩
  | 98 => ⟨S_, .i32⟩
  | 99 => ⟨S2x384x384, .i32⟩
  | 100 => ⟨S2x384x384, .i32⟩
  | 101 => ⟨S2x384x384, .i32⟩
  | 102 => ⟨S_, .i32⟩
  | 103 => ⟨S2x384x384, .i32⟩
  | 104 => ⟨S2x384x384, .i1⟩
  | 105 => ⟨S_, .i32⟩
  | 106 => ⟨S2x384x384, .i32⟩
  | 107 => ⟨S2x384x384, .i32⟩
  | 108 => ⟨S2x384x384, .i32⟩
  | 109 => ⟨S2x384x384x1, .i32⟩
  | 110 => ⟨S2x384x384x1, .i32⟩
  | 111 => ⟨S2x384x384x1, .i32⟩
  | 112 => ⟨S2x384x384x3, .i32⟩
  | 113 => ⟨S96x2x384x384, .f32⟩
  | 114 => ⟨S96x2x384x384, .f32⟩
  | 115 => ⟨S96x2x384x384, .f32⟩
  | 116 => ⟨S96x2x384x384, .f32⟩
  | 117 => ⟨S_, .i32⟩
  | 118 => ⟨S2x384x384, .i32⟩
  | 119 => ⟨S2x384x384, .i1⟩
  | 120 => ⟨S_, .i32⟩
  | 121 => ⟨S2x384x384, .i32⟩
  | 122 => ⟨S2x384x384, .i32⟩
  | 123 => ⟨S2x384x384, .i32⟩
  | 124 => ⟨S_, .i32⟩
  | 125 => ⟨S2x384x384, .i32⟩
  | 126 => ⟨S2x384x384, .i1⟩
  | 127 => ⟨S_, .i32⟩
  | _ => ⟨S2x96x384x384, .f32⟩

abbrev hbmTy0_1 (i : Nat) : BufTy := match i % 128 with
  | 0 => ⟨S2x384x384, .i32⟩
  | 1 => ⟨S2x384x384, .i32⟩
  | 2 => ⟨S2x384x384, .i32⟩
  | 3 => ⟨S_, .i32⟩
  | 4 => ⟨S2x384x384, .i32⟩
  | 5 => ⟨S2x384x384, .i1⟩
  | 6 => ⟨S_, .i32⟩
  | 7 => ⟨S2x384x384, .i32⟩
  | 8 => ⟨S2x384x384, .i32⟩
  | 9 => ⟨S2x384x384, .i32⟩
  | 10 => ⟨S2x384x384x1, .i32⟩
  | 11 => ⟨S2x384x384x1, .i32⟩
  | 12 => ⟨S2x384x384x1, .i32⟩
  | 13 => ⟨S2x384x384x3, .i32⟩
  | 14 => ⟨S96x2x384x384, .f32⟩
  | 15 => ⟨S96x2x384x384, .f32⟩
  | 16 => ⟨S96x2x384x384, .f32⟩
  | 17 => ⟨S96x2x384x384, .f32⟩
  | 18 => ⟨S_, .i32⟩
  | 19 => ⟨S2x384x384, .i32⟩
  | 20 => ⟨S2x384x384, .i1⟩
  | 21 => ⟨S_, .i32⟩
  | 22 => ⟨S2x384x384, .i32⟩
  | 23 => ⟨S2x384x384, .i32⟩
  | 24 => ⟨S2x384x384, .i32⟩
  | 25 => ⟨S_, .i32⟩
  | 26 => ⟨S2x384x384, .i32⟩
  | 27 => ⟨S2x384x384, .i1⟩
  | 28 => ⟨S_, .i32⟩
  | 29 => ⟨S2x384x384, .i32⟩
  | 30 => ⟨S2x384x384, .i32⟩
  | 31 => ⟨S2x384x384, .i32⟩
  | 32 => ⟨S_, .i32⟩
  | 33 => ⟨S2x384x384, .i32⟩
  | 34 => ⟨S2x384x384, .i1⟩
  | 35 => ⟨S_, .i32⟩
  | 36 => ⟨S2x384x384, .i32⟩
  | 37 => ⟨S2x384x384, .i32⟩
  | 38 => ⟨S2x384x384, .i32⟩
  | 39 => ⟨S2x384x384x1, .i32⟩
  | 40 => ⟨S2x384x384x1, .i32⟩
  | 41 => ⟨S2x384x384x1, .i32⟩
  | 42 => ⟨S2x384x384x3, .i32⟩
  | 43 => ⟨S96x2x384x384, .f32⟩
  | 44 => ⟨S96x2x384x384, .f32⟩
  | 45 => ⟨S96x2x384x384, .f32⟩
  | 46 => ⟨S96x2x384x384, .f32⟩
  | 47 => ⟨S2x96x384x384, .f32⟩
  | 48 => ⟨S2x1x384x384, .f32⟩
  | 49 => ⟨S2x96x384x384, .f32⟩
  | 50 => ⟨S2x96x384x384, .f32⟩
  | _ => ⟨S2x96x384x384, .f32⟩

abbrev hbmTy (i : Nat) : BufTy := match i / 128 with
  | 0 => hbmTy0_0 i
  | 1 => hbmTy0_1 i
  | _ => ⟨S2x96x384x384, .f32⟩

abbrev bufTy : (tb : Table) → Fin (tcTables nBuf tb) → BufTy
  | .hbm, ⟨i, _⟩ => hbmTy i
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_c : Ref sig .tc := ⟨.hbm, 60, rfl⟩
abbrev main_v52 : Ref sig .tc := ⟨.hbm, 61, rfl⟩
abbrev main_v53 : Ref sig .tc := ⟨.hbm, 62, rfl⟩
abbrev main_c_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_c_6 : Ref sig .tc := ⟨.hbm, 67, rfl⟩
abbrev main_v57 : Ref sig .tc := ⟨.hbm, 68, rfl⟩
abbrev main_v58 : Ref sig .tc := ⟨.hbm, 69, rfl⟩
abbrev main_c_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_c_8 : Ref sig .tc := ⟨.hbm, 74, rfl⟩
abbrev main_v62 : Ref sig .tc := ⟨.hbm, 75, rfl⟩
abbrev main_v63 : Ref sig .tc := ⟨.hbm, 76, rfl⟩
abbrev main_c_9 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_c_10 : Ref sig .tc := ⟨.hbm, 88, rfl⟩
abbrev main_v74 : Ref sig .tc := ⟨.hbm, 89, rfl⟩
abbrev main_v75 : Ref sig .tc := ⟨.hbm, 90, rfl⟩
abbrev main_c_11 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_c_12 : Ref sig .tc := ⟨.hbm, 95, rfl⟩
abbrev main_v79 : Ref sig .tc := ⟨.hbm, 96, rfl⟩
abbrev main_v80 : Ref sig .tc := ⟨.hbm, 97, rfl⟩
abbrev main_c_13 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_c_14 : Ref sig .tc := ⟨.hbm, 102, rfl⟩
abbrev main_v84 : Ref sig .tc := ⟨.hbm, 103, rfl⟩
abbrev main_v85 : Ref sig .tc := ⟨.hbm, 104, rfl⟩
abbrev main_c_15 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_c_16 : Ref sig .tc := ⟨.hbm, 117, rfl⟩
abbrev main_v97 : Ref sig .tc := ⟨.hbm, 118, rfl⟩
abbrev main_v98 : Ref sig .tc := ⟨.hbm, 119, rfl⟩
abbrev main_c_17 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_c_18 : Ref sig .tc := ⟨.hbm, 124, rfl⟩
abbrev main_v102 : Ref sig .tc := ⟨.hbm, 125, rfl⟩
abbrev main_v103 : Ref sig .tc := ⟨.hbm, 126, rfl⟩
abbrev main_c_19 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_c_20 : Ref sig .tc := ⟨.hbm, 131, rfl⟩
abbrev main_v107 : Ref sig .tc := ⟨.hbm, 132, rfl⟩
abbrev main_v108 : Ref sig .tc := ⟨.hbm, 133, rfl⟩
abbrev main_c_21 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_c_22 : Ref sig .tc := ⟨.hbm, 146, rfl⟩
abbrev main_v120 : Ref sig .tc := ⟨.hbm, 147, rfl⟩
abbrev main_v121 : Ref sig .tc := ⟨.hbm, 148, rfl⟩
abbrev main_c_23 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_c_24 : Ref sig .tc := ⟨.hbm, 153, rfl⟩
abbrev main_v125 : Ref sig .tc := ⟨.hbm, 154, rfl⟩
abbrev main_v126 : Ref sig .tc := ⟨.hbm, 155, rfl⟩
abbrev main_c_25 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_c_26 : Ref sig .tc := ⟨.hbm, 160, rfl⟩
abbrev main_v130 : Ref sig .tc := ⟨.hbm, 161, rfl⟩
abbrev main_v131 : Ref sig .tc := ⟨.hbm, 162, rfl⟩
abbrev main_c_27 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩

abbrev nD : Nat := 1
abbrev τ : Topo := Topo.v7x

variable {F : FTy → Type} [FloatOps F]
-- ==== Proof.Blend.lean ====
/- Hand-written, untrusted: THE ARITHMETIC. Four finite pixel values `p00 p01 p10 p11` and two coordinates `u` (across)
   and `v` (down) in [0, 1). The kernel evaluates the bilinear polynomial, the reference the weighted sum of the four
   pixels with weights that start from the floors of the coordinates; `weighted_eq_blend` is their equality. -/
module

public import Idealize.ShloMosaic.Lib.IdealHost

@[expose] public section

noncomputable section

namespace Cert.Proof

open Idealize.ShloMosaic

/-- The polynomial that the kernel evaluates: `p00` moved by `u` across, by `v` down, and by the twist in both. -/
def blend (p00 p01 p10 p11 u v : EReal) : EReal :=
  ((p00 + u * (p01 - p00)) + v * (p10 - p00)) + (u * v) * ((p00 - p10) + (p11 - p01))

/-- An extended real is finite: it is neither infinity. -/
abbrev IsReal (e : EReal) : Prop := ⊥ < e ∧ e < ⊤

/-- A finite extended real is a real number. -/
theorem exists_real {e : EReal} (h : IsReal e) : ∃ r : ℝ, e = (r : EReal) :=
  ⟨e.toReal, (EReal.coe_toReal h.2.ne h.1.ne').symm⟩

/-- An extended real in [0, 1) is a real number in [0, 1). -/
theorem exists_unit {e : EReal} (h : 0 ≤ e ∧ e < 1) : ∃ r : ℝ, e = (r : EReal) ∧ 0 ≤ r ∧ r < 1 := by
  obtain ⟨r, rfl⟩ := exists_real (e := e) ⟨lt_of_lt_of_le EReal.bot_lt_zero h.1, lt_trans h.2 (EReal.coe_lt_top 1)⟩
  exact ⟨r, rfl, by exact_mod_cast h.1, by exact_mod_cast h.2⟩

/-- The floor of a coordinate in [0, 1) is zero. -/
theorem floor_unit {e : EReal} (h : 0 ≤ e ∧ e < 1) : Ideal.liftRound Int.floor e = 0 := by
  obtain ⟨r, rfl, h0, h1⟩ := exists_unit h
  have : Int.floor r = 0 := Int.floor_eq_zero_iff.2 ⟨h0, h1⟩
  show (((Int.floor r : ℤ) : ℝ) : EReal) = 0
  rw [this]; simp

/-- The reference's weighted sum, with the floors at 0 and the mask at 1, is the polynomial. -/
theorem weighted_eq_blend {p00 p01 p10 p11 u v : EReal} (h00 : IsReal p00) (h01 : IsReal p01) (h10 : IsReal p10) (h11 : IsReal p11)
    (hu : 0 ≤ u ∧ u < 1) (hv : 0 ≤ v ∧ v < 1) :
    (p00 * (((0 + 1) - u) * ((0 + 1) - v)) + p10 * (((0 + 1) - u) * (v - 0))
        + p01 * ((u - 0) * ((0 + 1) - v)) + p11 * ((u - 0) * (v - 0))) * 1
      = blend p00 p01 p10 p11 u v := by
  obtain ⟨a, rfl⟩ := exists_real h00
  obtain ⟨c, rfl⟩ := exists_real h01
  obtain ⟨b, rfl⟩ := exists_real h10
  obtain ⟨d, rfl⟩ := exists_real h11
  obtain ⟨x, rfl, _, _⟩ := exists_unit hu
  obtain ⟨y, rfl, _, _⟩ := exists_unit hv
  unfold blend
  have h0 : (0 : EReal) = ((0 : ℝ) : EReal) := rfl
  have h1 : (1 : EReal) = ((1 : ℝ) : EReal) := rfl
  rw [h0, h1]
  simp only [← EReal.coe_add, ← EReal.coe_sub, ← EReal.coe_mul]
  congr 1
  ring

end Cert.Proof

end
-- ==== Proof.Range.lean ====
/- Hand-written, untrusted: WHAT THE PRECONDITION SAYS, index by index. `in_range` is a conjunction of four
   `jnp.all`s; read back, every coordinate of the grid is in [0, 1) and every pixel of the two first rows and columns
   is finite. -/
module

public import proofs.«01_k».proof.Proof.Blend
public import proofs.«01_k».proof.Proof.Gen.Pre_in_range
public import Idealize.ShloMosaic.Lib.ReduceAll
public import Idealize.ShloMosaic.Lib.Pointwise

@[expose] public section

set_option maxRecDepth 16384

noncomputable section

namespace Cert.Proof

open Idealize.ShloMosaic Cert.Pre_in_range

/-- The word of the largest value is plus infinity, the word of the least one minus infinity. -/
theorem ofBits_inf : Ideal.ofBits .f32 0x7F800000#32 = ⊤ ∧ Ideal.ofBits .f32 0xFF800000#32 = ⊥ := by
  simp [Ideal.ofBits, Ideal.ieee]

variable {x : FVec Ideal S2x96x384x384 .f32} {g : FVec Ideal S2x384x384x2 .f32}

/-- The four conjuncts of the precondition, each an array of truth values that is 1 everywhere. -/
theorem in_range_all (h : Cert.Pre_in_range.fn (F := Ideal) x g = fun _ => 1#1) :
    (∀ i, cmpf .oge g (broadcastInDim S2x384x384x2 ![] Facts.bcast_S_S2x384x384x2 (constant S_ .f32 0x00000000#32)) i = 1#1)
    ∧ (∀ i, cmpf .olt g (broadcastInDim S2x384x384x2 ![] Facts.bcast_S_S2x384x384x2 (constant S_ .f32 0x3F800000#32)) i = 1#1)
    ∧ (∀ i, cmpf .olt (extractStridedSlice S2x96x2x2 ![0, 0, 0, 0] x Facts.slices_S2x96x384x384_S2x96x2x2_0_0_0_0)
        (broadcastInDim S2x96x2x2 ![] Facts.bcast_S_S2x96x2x2 (constant S_ .f32 0x7F800000#32)) i = 1#1)
    ∧ (∀ i, cmpf .ogt (extractStridedSlice S2x96x2x2 ![0, 0, 0, 0] x Facts.slices_S2x96x384x384_S2x96x2x2_0_0_0_0)
        (broadcastInDim S2x96x2x2 ![] Facts.bcast_S_S2x96x2x2 (constant S_ .f32 0xFF800000#32)) i = 1#1) := by
  have : Subsingleton S_.Idx := ⟨fun a b => funext fun k => k.elim0⟩
  have e := congrFun h (fun k => k.elim0)
  obtain ⟨e, h4⟩ := IntOp.andi_eq_one.1 e
  obtain ⟨e, h3⟩ := IntOp.andi_eq_one.1 e
  obtain ⟨h1, h2⟩ := IntOp.andi_eq_one.1 e
  exact ⟨Host.reduce_andi_all _ _ _ _ _ h1, Host.reduce_andi_all _ _ _ _ _ h2, Host.reduce_andi_all _ _ _ _ _ h3,
    Host.reduce_andi_all _ _ _ _ _ h4⟩

/-- A comparison's word is 1 exactly when the comparison holds. -/
theorem ofBool_decide {p : Prop} [Decidable p] : BitVec.ofBool (decide p) = 1#1 ↔ p := by
  by_cases h : p <;> simp [h]

/-- Every coordinate is in [0, 1). -/
theorem grid_unit (h : Cert.Pre_in_range.fn (F := Ideal) x g = fun _ => 1#1) (i : S2x384x384x2.Idx) : 0 ≤ g i ∧ g i < 1 := by
  obtain ⟨h1, h2, _, _⟩ := in_range_all h
  have a : BitVec.ofBool (decide (Ideal.ofBits .f32 0x00000000#32 ≤ g i)) = 1#1 := h1 i
  have b : BitVec.ofBool (decide (g i < Ideal.ofBits .f32 0x3F800000#32)) = 1#1 := h2 i
  rw [ofBool_decide] at a b
  rw [Ideal.ofBits_zero_f32] at a
  rw [Ideal.ofBits_one_f32] at b
  exact ⟨a, b⟩

/-- Every pixel at a row and a column below 2 is finite. -/
theorem corner_finite (h : Cert.Pre_in_range.fn (F := Ideal) x g = fun _ => 1#1) (n : Fin 2) (ch : Fin 96) (r l : Fin 2) :
    IsReal (x (ix4 n ch ⟨r.val, by omega⟩ ⟨l.val, by omega⟩)) := by
  obtain ⟨_, _, h3, h4⟩ := in_range_all h
  have e : extractStridedSlice S2x96x2x2 ![0, 0, 0, 0] x Facts.slices_S2x96x384x384_S2x96x2x2_0_0_0_0 (ix4 n ch r l)
      = x (ix4 n ch ⟨r.val, by omega⟩ ⟨l.val, by omega⟩) := by
    pointwise
  have a : extractStridedSlice S2x96x2x2 ![0, 0, 0, 0] x Facts.slices_S2x96x384x384_S2x96x2x2_0_0_0_0 (ix4 n ch r l)
      < Ideal.ofBits .f32 0x7F800000#32 := ofBool_decide.1 (h3 (ix4 n ch r l))
  have b : Ideal.ofBits .f32 0xFF800000#32
      < extractStridedSlice S2x96x2x2 ![0, 0, 0, 0] x Facts.slices_S2x96x384x384_S2x96x2x2_0_0_0_0 (ix4 n ch r l) :=
    ofBool_decide.1 (h4 (ix4 n ch r l))
  rw [e] at a b
  exact ⟨ofBits_inf.2 ▸ b, ofBits_inf.1 ▸ a⟩

end Cert.Proof

end
-- ==== Proof.Gather.lean ====
/- Hand-written, untrusted: THE REFERENCE'S GATHER, READ AT AN INDEX. jnp's `xp[:, i, j, k]` with three index arrays
   prints as one gather whose index vector has three components, one for each of the operand's last three axes; the first
   axis is copied whole. Element (ch, n, r, l) is the operand at (ch, a, b, c), where a, b and c are the three components
   at (n, r, l). -/
module

public import proofs.«01_k».proof.Proof.Gen.ReferenceIdeal
public import Idealize.ShloMosaic.Lib.Pointwise
public import Idealize.ShloMosaic.Lib.ValueIdxCore

@[expose] public section

set_option maxRecDepth 16384

noncomputable section

namespace Cert.Proof

open Idealize.ShloMosaic Cert.ReferenceIdeal

/-- The component `k` of the index vector is read at (n, r, l, k). -/
theorem siIdx_eq (ch : Fin 96) (n : Fin 2) (r l : Fin 384) (k : Fin 3) :
    GatherDims.siIdx gather_S96x2x384x384_S2x384x384x3_S96x2x384x384_0_123_n_n_123_3_96111 (ix4 ch n r l) k = ix4 n r l k := by
  funext b
  refine Fin.ext ?_
  match b with
  | ⟨0, _⟩ => rfl
  | ⟨1, _⟩ => rfl
  | ⟨2, _⟩ => rfl
  | ⟨3, _⟩ => rfl

/-- THE GATHER AT AN INDEX, for index words that stand for positions inside the operand. -/
theorem gather_apply (xp : FVec Ideal S96x2x384x384 .f32) (idx : IVec S2x384x384x3 32)
    (ch : Fin 96) (n : Fin 2) (r l : Fin 384) (a : Fin 2) (b c : Fin 384)
    (ha : idx (ix4 n r l 0) = BitVec.ofNat 32 a.val) (hb : idx (ix4 n r l 1) = BitVec.ofNat 32 b.val)
    (hc : idx (ix4 n r l 2) = BitVec.ofNat 32 c.val) :
    Host.gather gather_S96x2x384x384_S2x384x384x3_S96x2x384x384_0_123_n_n_123_3_96111 xp idx (ix4 ch n r l) = xp (ix4 ch a b c) := by
  unfold Host.gather
  congr 1
  funext d
  refine Fin.ext ?_
  show GatherDims.start gather_S96x2x384x384_S2x384x384x3_S96x2x384x384_0_123_n_n_123_3_96111 (ix4 ch n r l) idx d + GatherDims.batchCoord gather_S96x2x384x384_S2x384x384x3_S96x2x384x384_0_123_n_n_123_3_96111 (ix4 ch n r l) d
    + GatherDims.offCoord gather_S96x2x384x384_S2x384x384x3_S96x2x384x384_0_123_n_n_123_3_96111 (ix4 ch n r l) d = _
  have word : ∀ {N : Nat} (k : Fin N), N < 2 ^ 31 → min (BitVec.ofNat 32 k.val).toInt.toNat (N - 1) = k.val := by
    intro N k hN
    have hk := k.isLt
    rw [BitVec.toInt_eq_toNat_cond, BitVec.toNat_ofNat]
    rw [Nat.mod_eq_of_lt (by omega), if_pos (by omega)]
    omega
  rw [GatherDims.batchCoord_eq_zero _ _ _ List.not_mem_nil, Nat.add_zero]
  match d with
  | ⟨0, _⟩ =>
    have s0 : GatherDims.start gather_S96x2x384x384_S2x384x384x3_S96x2x384x384_0_123_n_n_123_3_96111 (ix4 ch n r l) idx 0 = 0 := by
      unfold GatherDims.start
      rw [dif_neg (by decide)]
    show GatherDims.start gather_S96x2x384x384_S2x384x384x3_S96x2x384x384_0_123_n_n_123_3_96111 (ix4 ch n r l) idx 0 + GatherDims.offCoord gather_S96x2x384x384_S2x384x384x3_S96x2x384x384_0_123_n_n_123_3_96111 (ix4 ch n r l) 0 = _
    rw [s0, Nat.zero_add]
    rfl
  | ⟨1, _⟩ =>
    show GatherDims.start gather_S96x2x384x384_S2x384x384x3_S96x2x384x384_0_123_n_n_123_3_96111 (ix4 ch n r l) idx 1 + GatherDims.offCoord gather_S96x2x384x384_S2x384x384x3_S96x2x384x384_0_123_n_n_123_3_96111 (ix4 ch n r l) 1 = _
    rw [GatherDims.offCoord_eq_zero _ _ _ (by decide), Nat.add_zero]
    unfold GatherDims.start
    rw [dif_pos (by decide)]
    refine Eq.trans ?_ (word a (by norm_num))
    rw [← ha, ← siIdx_eq ch n r l 0]
    rfl
  | ⟨2, _⟩ =>
    show GatherDims.start gather_S96x2x384x384_S2x384x384x3_S96x2x384x384_0_123_n_n_123_3_96111 (ix4 ch n r l) idx 2 + GatherDims.offCoord gather_S96x2x384x384_S2x384x384x3_S96x2x384x384_0_123_n_n_123_3_96111 (ix4 ch n r l) 2 = _
    rw [GatherDims.offCoord_eq_zero _ _ _ (by decide), Nat.add_zero]
    unfold GatherDims.start
    rw [dif_pos (by decide)]
    refine Eq.trans ?_ (word b (by norm_num))
    rw [← hb, ← siIdx_eq ch n r l 1]
    rfl
  | ⟨3, _⟩ =>
    show GatherDims.start gather_S96x2x384x384_S2x384x384x3_S96x2x384x384_0_123_n_n_123_3_96111 (ix4 ch n r l) idx 3 + GatherDims.offCoord gather_S96x2x384x384_S2x384x384x3_S96x2x384x384_0_123_n_n_123_3_96111 (ix4 ch n r l) 3 = _
    rw [GatherDims.offCoord_eq_zero _ _ _ (by decide), Nat.add_zero]
    unfold GatherDims.start
    rw [dif_pos (by decide)]
    refine Eq.trans ?_ (word c (by norm_num))
    rw [← hc, ← siIdx_eq ch n r l 2]
    rfl

end Cert.Proof

end
-- ==== Proof.Reference.lean ====
/- Hand-written, untrusted: WHAT THE REFERENCE RETURNS. The run of the reference is one long term of the two arguments;
   `sampled` is that term in steps with names (`res_eq`: the two are the same term). With every coordinate in [0, 1) the
   mask is 1, the floors are 0, the index words are 0 and 1, and the result at an index is the weighted sum of four
   pixels (`sampled_apply`). -/
module

public import proofs.«01_k».proof.Proof.Blend
public import proofs.«01_k».proof.Proof.Gather
public import proofs.«01_k».proof.Proof.Gen.ReferenceIdeal.Run

@[expose] public section

set_option maxRecDepth 16384

noncomputable section

namespace Cert.Proof

open Idealize.ShloMosaic Idealize.ShloMosaic.TcCoe Cert.ReferenceIdeal
open Facts₀

/-- One number for each sample position. -/
abbrev Plane := FVec Ideal S2x384x384x1 .f32

/-- The coordinates across. -/
def across (g : FVec Ideal S2x384x384x2 .f32) : Plane :=
  extractStridedSlice S2x384x384x1 ![0, 0, 0, 0] g slices_S2x384x384x2_S2x384x384x1_0_0_0_0
/-- The coordinates down. -/
def down (g : FVec Ideal S2x384x384x2 .f32) : Plane :=
  extractStridedSlice S2x384x384x1 ![0, 0, 0, 1] g slices_S2x384x384x2_S2x384x384x1_0_0_0_1
/-- One number at every position. -/
def every (b : BitVec 32) : Plane := broadcastInDim S2x384x384x1 ![] bcast_S_S2x384x384x1 (constant S_ .f32 b)
/-- 1 where both coordinates are inside the image, 0 elsewhere. -/
def mask (g : FVec Ideal S2x384x384x2 .f32) : Plane :=
  uitofp .f32 (andi (andi (andi (cmpf .oge (across g) (every 0x00000000#32)) (cmpf .oge (down g) (every 0x00000000#32)))
    (cmpf .olt (across g) (every 0x43BF8000#32))) (cmpf .olt (down g) (every 0x43BF8000#32)))
/-- The position at or before a coordinate. -/
def before (p : Plane) : Plane := Host.floor p
/-- The position after a coordinate. -/
def next (p : Plane) : Plane := addf (before p) (every 0x3F800000#32)
/-- A position as an index word, 0 where the mask is. -/
def word (p k : Plane) : IVec S2x384x384 32 := fptosi 32 (shapeCast S2x384x384 (mulf p k) shapeCasts_S2x384x384x1_S2x384x384)
/-- The image that a sample belongs to, as an index word. -/
def image : IVec S2x384x384 32 :=
  broadcastInDim S2x384x384 ![0, 1, 2] bcast_S2x1x1_S2x384x384_0_1_2 (shapeCast S2x1x1 (iotaInDim S2 32 0) shapeCasts_S2_S2x1x1)
/-- jnp's reading of an index: a negative one counts from the end of an axis of `k`. -/
def wrap (k : BitVec 32) (v : IVec S2x384x384 32) : IVec S2x384x384x1 32 :=
  broadcastInDim S2x384x384x1 ![0, 1, 2] bcast_S2x384x384_S2x384x384x1_0_1_2
    (select (cmpi .slt v (broadcastInDim S2x384x384 ![] bcast_S_S2x384x384 (constantI S_ 32 0#32)))
      (addi v (broadcastInDim S2x384x384 ![] bcast_S_S2x384x384 (constantI S_ 32 k))) v)
/-- The three components of the index vectors, in one array. -/
def triple (u0 u1 u2 : IVec S2x384x384x1 32) : IVec S2x384x384x3 32 :=
  concatenate S2x384x384x3 3 [⟨S2x384x384x1, u0⟩, ⟨S2x384x384x1, u1⟩, ⟨S2x384x384x1, u2⟩]
    concatenates_S2x384x384x1_S2x384x384x1_S2x384x384x1_S2x384x384x3_d3
/-- The pixels at the rows `yw` and the columns `xw`, times their weights `w`. -/
def term (x : FVec Ideal S2x96x384x384 .f32) (yw xw : IVec S2x384x384 32) (w : Plane) : FVec Ideal S96x2x384x384 .f32 :=
  mulf (Host.gather gather_S96x2x384x384_S2x384x384x3_S96x2x384x384_0_123_n_n_123_3_96111
      (transpose S96x2x384x384 [1, 0, 2, 3] x transposes_S2x96x384x384_S96x2x384x384_1_0_2_3)
      (triple (wrap 2#32 image) (wrap 384#32 yw) (wrap 384#32 xw)))
    (broadcastInDim S96x2x384x384 ![0, 1, 2, 3] bcast_S1x2x384x384_S96x2x384x384_0_1_2_3
      (transpose S1x2x384x384 [3, 0, 1, 2] w transposes_S2x384x384x1_S1x2x384x384_3_0_1_2))
/-- The reference's result, as a function of the image and the grid. -/
def sampled (x : FVec Ideal S2x96x384x384 .f32) (g : FVec Ideal S2x384x384x2 .f32) : FVec Ideal S2x96x384x384 .f32 :=
  mulf (transpose S2x96x384x384 [1, 0, 2, 3]
    (addf (addf (addf
      (term x (word (before (down g)) (mask g)) (word (before (across g)) (mask g))
        (mulf (subf (next (across g)) (across g)) (subf (next (down g)) (down g))))
      (term x (word (next (down g)) (mask g)) (word (before (across g)) (mask g))
        (mulf (subf (next (across g)) (across g)) (subf (down g) (before (down g))))))
      (term x (word (before (down g)) (mask g)) (word (next (across g)) (mask g))
        (mulf (subf (across g) (before (across g))) (subf (next (down g)) (down g)))))
      (term x (word (next (down g)) (mask g)) (word (next (across g)) (mask g))
        (mulf (subf (across g) (before (across g))) (subf (down g) (before (down g))))))
    transposes_S96x2x384x384_S2x96x384x384_1_0_2_3)
  (broadcastInDim S2x96x384x384 ![0, 1, 2, 3] bcast_S2x1x384x384_S2x96x384x384_0_1_2_3
    (transpose S2x1x384x384 [0, 3, 1, 2] (mask g) transposes_S2x384x384x1_S2x1x384x384_0_3_1_2))

/-- What the run of the reference leaves is `sampled` of the arguments. -/
theorem res_eq (m : (ℓ : Loc nD τ sig) → Buf (Elt Ideal) ℓ) (c : Dev nD) :
    Cert.ReferenceIdeal.Value.res_out0 (F := Ideal) m c
      = sampled (m ((c.tc : Thread nD τ).loc main_arg0)) (m ((c.tc : Thread nD τ).loc main_arg1)) := rfl

section Unit

variable {g : FVec Ideal S2x384x384x2 .f32} (hg : ∀ i, 0 ≤ g i ∧ g i < 1)
variable (n : Fin 2) (r l : Fin 384)

/-- The coordinate across, at a position. -/
theorem across_apply : across g (ix4 n r l 0) = g (ix4 n r l 0) := by
  unfold across; pointwise

/-- The coordinate down, at a position. -/
theorem down_apply : down g (ix4 n r l 0) = g (ix4 n r l 1) := by
  unfold down; pointwise

/-- One number at every position, at a position. -/
theorem every_apply (b : BitVec 32) : every b (ix4 n r l 0) = Ideal.ofBits .f32 b := rfl

/-- The bound of the mask is 383. -/
theorem ofBits_383 : Ideal.ofBits .f32 0x43BF8000#32 = ((383 : ℝ) : EReal) := by
  simp [Ideal.ofBits, Ideal.ieee, -EReal.coe_mul]; norm_num

include hg in
/-- The mask is 1. -/
theorem mask_apply : mask g (ix4 n r l 0) = 1 := by
  have b : ∀ {e : EReal}, 0 ≤ e ∧ e < 1 → e < Ideal.ofBits .f32 0x43BF8000#32 := fun h => by
    rw [ofBits_383]
    exact lt_trans h.2 (by rw [show (1 : EReal) = ((1 : ℝ) : EReal) from rfl]; exact_mod_cast (by norm_num : (1 : ℝ) < 383))
  have z : ∀ {e : EReal}, 0 ≤ e ∧ e < 1 → Ideal.ofBits .f32 0x00000000#32 ≤ e := fun h => by
    rw [Ideal.ofBits_zero_f32]; exact h.1
  have hx := hg (ix4 n r l 0)
  have hy := hg (ix4 n r l 1)
  rw [← across_apply (g := g) n r l] at hx
  rw [← down_apply (g := g) n r l] at hy
  show (((IntOp.andi (IntOp.andi (IntOp.andi
      (BitVec.ofBool (decide (Ideal.ofBits .f32 0x00000000#32 ≤ across g (ix4 n r l 0))))
      (BitVec.ofBool (decide (Ideal.ofBits .f32 0x00000000#32 ≤ down g (ix4 n r l 0)))))
      (BitVec.ofBool (decide (across g (ix4 n r l 0) < Ideal.ofBits .f32 0x43BF8000#32))))
      (BitVec.ofBool (decide (down g (ix4 n r l 0) < Ideal.ofBits .f32 0x43BF8000#32)))).toNat : ℝ) : EReal) = 1
  rw [decide_eq_true (z hx), decide_eq_true (z hy), decide_eq_true (b hx), decide_eq_true (b hy)]
  have : (IntOp.andi (IntOp.andi (IntOp.andi (BitVec.ofBool true) (BitVec.ofBool true)) (BitVec.ofBool true))
    (BitVec.ofBool true)).toNat = 1 := by decide
  rw [this]; simp

/-- The floor of a coordinate in [0, 1) is 0. -/
theorem before_apply {p : Plane} (h : 0 ≤ p (ix4 n r l 0) ∧ p (ix4 n r l 0) < 1) : before p (ix4 n r l 0) = 0 :=
  floor_unit h

/-- The position after a coordinate in [0, 1) is 1. -/
theorem next_apply {p : Plane} (h : 0 ≤ p (ix4 n r l 0) ∧ p (ix4 n r l 0) < 1) : next p (ix4 n r l 0) = 0 + 1 := by
  show before p (ix4 n r l 0) + Ideal.ofBits .f32 0x3F800000#32 = _
  rw [before_apply n r l h, Ideal.ofBits_one_f32]

/-- An index word at a position: the position's number, where the mask is 1. -/
theorem word_apply {p k : Plane} (hk : k (ix4 n r l 0) = 1) : word p k (ix3 n r l) = Ideal.fptosi 32 (p (ix4 n r l 0)) := by
  have e : word p k (ix3 n r l) = Ideal.fptosi 32 (p (ix4 n r l 0) * k (ix4 n r l 0)) := by
    unfold word; pointwise; rfl
  rw [e, hk, mul_one]

/-- The numbers 0 and 1 as words. -/
theorem fptosi_zero_one : Ideal.fptosi 32 0 = 0#32 ∧ Ideal.fptosi 32 (0 + 1) = 1#32 := by
  have h0 : (0 : EReal) = ((0 : ℝ) : EReal) := rfl
  have h1 : (0 + 1 : EReal) = ((1 : ℝ) : EReal) := by rw [zero_add]; rfl
  rw [h1, h0]
  constructor <;> rw [Ideal.fptosi, Ideal.toIntClamped_coe] <;> norm_num

/-- An index word that stands for a number below `k ≤ 384` is read as it is. -/
theorem wrap_apply (k : BitVec 32) {v : IVec S2x384x384 32} (a : Fin 384) (h : v (ix3 n r l) = BitVec.ofNat 32 a.val) :
    wrap k v (ix4 n r l 0) = BitVec.ofNat 32 a.val := by
  have e : wrap k v (ix4 n r l 0)
      = Scalar.select (IntOp.cmpi .slt (v (ix3 n r l)) 0#32) (IntOp.addi (v (ix3 n r l)) k) (v (ix3 n r l)) := by
    unfold wrap; pointwise
  have ha := a.isLt
  have hs : BitVec.slt (BitVec.ofNat 32 a.val) 0#32 = false := by
    rw [BitVec.slt_eq_decide, BitVec.toInt_eq_toNat_cond, BitVec.toNat_ofNat, Nat.mod_eq_of_lt (by omega), if_pos (by omega)]
    simp
  have hc : IntOp.cmpi .slt (BitVec.ofNat 32 a.val) 0#32 = 0#1 := by
    show BitVec.ofBool (BitVec.slt (BitVec.ofNat 32 a.val) 0#32) = 0#1
    rw [hs]; rfl
  rw [e, h, hc]
  rfl

/-- The image's index word. -/
theorem image_apply : image (ix3 n r l) = BitVec.ofNat 32 n.val := by
  unfold image; pointwise

/-- The three components of an index vector. -/
theorem triple_apply (u0 u1 u2 : IVec S2x384x384x1 32) :
    triple u0 u1 u2 (ix4 n r l 0) = u0 (ix4 n r l 0) ∧ triple u0 u1 u2 (ix4 n r l 1) = u1 (ix4 n r l 0)
      ∧ triple u0 u1 u2 (ix4 n r l 2) = u2 (ix4 n r l 0) := by
  unfold triple
  refine ⟨?_, ?_, ?_⟩ <;> pointwise

/-- One of the four terms at an index: the pixel at (b, a) of the image, times the weight. -/
theorem term_apply (x : FVec Ideal S2x96x384x384 .f32) {yw xw : IVec S2x384x384 32} (w : Plane) (ch : Fin 96) (a b : Fin 384)
    (hy : yw (ix3 n r l) = BitVec.ofNat 32 b.val) (hx : xw (ix3 n r l) = BitVec.ofNat 32 a.val) :
    term x yw xw w (ix4 ch n r l) = x (ix4 n ch b a) * w (ix4 n r l 0) := by
  have hn : image (ix3 n r l) = BitVec.ofNat 32 ((⟨n.val, by omega⟩ : Fin 384)).val := image_apply n r l
  obtain ⟨t0, t1, t2⟩ := triple_apply n r l (wrap 2#32 image) (wrap 384#32 yw) (wrap 384#32 xw)
  have e := gather_apply (transpose S96x2x384x384 [1, 0, 2, 3] x transposes_S2x96x384x384_S96x2x384x384_1_0_2_3)
    (triple (wrap 2#32 image) (wrap 384#32 yw) (wrap 384#32 xw)) ch n r l n b a
    (t0.trans (wrap_apply n r l _ _ hn)) (t1.trans (wrap_apply n r l _ _ hy)) (t2.trans (wrap_apply n r l _ _ hx))
  have p : transpose S96x2x384x384 [1, 0, 2, 3] x transposes_S2x96x384x384_S96x2x384x384_1_0_2_3 (ix4 ch n b a)
      = x (ix4 n ch b a) := by pointwise
  have q : broadcastInDim S96x2x384x384 ![0, 1, 2, 3] bcast_S1x2x384x384_S96x2x384x384_0_1_2_3
      (transpose S1x2x384x384 [3, 0, 1, 2] w transposes_S2x384x384x1_S1x2x384x384_3_0_1_2) (ix4 ch n r l)
      = w (ix4 n r l 0) := by pointwise
  exact congrArg₂ (· * ·) (e.trans p) q

include hg in
/-- THE REFERENCE'S RESULT AT AN INDEX: the weighted sum of the four pixels of the first two rows and columns. -/
theorem sampled_apply (x : FVec Ideal S2x96x384x384 .f32) (ch : Fin 96) :
    sampled x g (ix4 n ch r l)
      = (x (ix4 n ch 0 0) * (((0 + 1) - g (ix4 n r l 0)) * ((0 + 1) - g (ix4 n r l 1)))
          + x (ix4 n ch 1 0) * (((0 + 1) - g (ix4 n r l 0)) * (g (ix4 n r l 1) - 0))
          + x (ix4 n ch 0 1) * ((g (ix4 n r l 0) - 0) * ((0 + 1) - g (ix4 n r l 1)))
          + x (ix4 n ch 1 1) * ((g (ix4 n r l 0) - 0) * (g (ix4 n r l 1) - 0))) * 1 := by
  have hx := hg (ix4 n r l 0)
  have hy := hg (ix4 n r l 1)
  rw [← across_apply (g := g) n r l] at hx
  rw [← down_apply (g := g) n r l] at hy
  have hm := mask_apply hg n r l
  have x0 := before_apply n r l hx
  have x1 := next_apply n r l hx
  have y0 := before_apply n r l hy
  have y1 := next_apply n r l hy
  obtain ⟨w0, w1⟩ := fptosi_zero_one
  have wx0 : word (before (across g)) (mask g) (ix3 n r l) = BitVec.ofNat 32 (0 : Fin 384).val := by
    rw [word_apply n r l hm, x0, w0]; rfl
  have wx1 : word (next (across g)) (mask g) (ix3 n r l) = BitVec.ofNat 32 (1 : Fin 384).val := by
    rw [word_apply n r l hm, x1, w1]; rfl
  have wy0 : word (before (down g)) (mask g) (ix3 n r l) = BitVec.ofNat 32 (0 : Fin 384).val := by
    rw [word_apply n r l hm, y0, w0]; rfl
  have wy1 : word (next (down g)) (mask g) (ix3 n r l) = BitVec.ofNat 32 (1 : Fin 384).val := by
    rw [word_apply n r l hm, y1, w1]; rfl
  have e : sampled x g (ix4 n ch r l) = (
      term x (word (before (down g)) (mask g)) (word (before (across g)) (mask g))
        (mulf (subf (next (across g)) (across g)) (subf (next (down g)) (down g))) (ix4 ch n r l)
      + term x (word (next (down g)) (mask g)) (word (before (across g)) (mask g))
        (mulf (subf (next (across g)) (across g)) (subf (down g) (before (down g)))) (ix4 ch n r l)
      + term x (word (before (down g)) (mask g)) (word (next (across g)) (mask g))
        (mulf (subf (across g) (before (across g))) (subf (next (down g)) (down g))) (ix4 ch n r l)
      + term x (word (next (down g)) (mask g)) (word (next (across g)) (mask g))
        (mulf (subf (across g) (before (across g))) (subf (down g) (before (down g)))) (ix4 ch n r l)) * mask g (ix4 n r l 0) := by
    unfold sampled; pointwise
  rw [e, term_apply n r l x _ ch 0 0 wy0 wx0, term_apply n r l x _ ch 0 1 wy1 wx0, term_apply n r l x _ ch 1 0 wy0 wx1,
    term_apply n r l x _ ch 1 1 wy1 wx1, hm]
  have wt : ∀ (p q p' q' : Plane) {a b a' b' : EReal}, p (ix4 n r l 0) = a → q (ix4 n r l 0) = b → p' (ix4 n r l 0) = a' →
      q' (ix4 n r l 0) = b' → mulf (subf p q) (subf p' q') (ix4 n r l 0) = (a - b) * (a' - b') := by
    intro p q p' q' a b a' b' h1 h2 h3 h4
    subst h1 h2 h3 h4; rfl
  rw [wt _ _ _ _ x1 (across_apply n r l) y1 (down_apply n r l), wt _ _ _ _ x1 (across_apply n r l) (down_apply n r l) y0,
    wt _ _ _ _ (across_apply n r l) x0 y1 (down_apply n r l), wt _ _ _ _ (across_apply n r l) x0 (down_apply n r l) y0]

end Unit

end Cert.Proof

end
-- ==== Proof.Block.lean ====
/- Hand-written, untrusted: ONE BLOCK OF THE KERNEL'S RESULT. The body stores one channel after another: 96 pieces that
   differ in the channel's number alone (`pieces_eq`). A piece is the bilinear polynomial of four numbers of the channel
   and of the two planes of coordinates (`piece_apply`), so the block is that polynomial at every index (`out_apply`). -/
module

public import proofs.«01_k».proof.Proof.Blend
public import proofs.«01_k».proof.Proof.Gen.KernelIdeal.Value
public import Idealize.ShloMosaic.Lib.Pointwise

@[expose] public section

set_option maxRecDepth 16384

noncomputable section

namespace Cert.Proof

open Idealize.ShloMosaic Idealize.ShloMosaic.TcCoe Cert.KernelIdeal Cert.KernelIdeal.Gen

/-- One channel's rows: the polynomial of the four numbers `a`, `b`, `c`, `d`, at every position of the block. -/
def row (u v w : FVec Ideal S64x384 .f32) (a c b d : Elt Ideal .f32) : FVec Ideal S1x1x64x384 .f32 :=
  shapeCast S1x1x64x384
    (addf (addf (addf (broadcast S64x384 a) (mulf u (broadcast S64x384 (Scalar.subf c a))))
        (mulf v (broadcast S64x384 (Scalar.subf b a))))
      (mulf w (broadcast S64x384 (Scalar.addf (Scalar.subf a b) (Scalar.subf d c))))) shapeCasts_S64x384_S1x1x64x384

/-- One channel's rows at an index. -/
theorem row_apply (u v : FVec Ideal S64x384 .f32) (a c b d : Elt Ideal .f32) (r : Fin 64) (l : Fin 384) :
    row u v (mulf u v) a c b d (ix4 0 0 r l) = blend a c b d (u (ix2 r l)) (v (ix2 r l)) := by
  unfold row; pointwise; rfl

section Body

variable (c : Dev nD) (i : grid0.Coords) (arg2 : Memref sig .tc .smem S1x96x4 .f32) (harg2 : arg2.IsWhole)
  (arg3 : Memref sig .tc .vmem S1x2x64x384 .f32) (harg3 : arg3.IsWhole)
  (arg4 : Memref sig .tc .vmem S1x96x64x384 .f32) (harg4 : arg4.IsWhole)
  (x0 : Vec Ideal S1x96x4 .f32) (x1 : Vec Ideal S1x2x64x384 .f32)

/-- Number `q` of channel `k` is inside the block of the four numbers of each channel. -/
theorem inb_number (k : Fin 96) (q : Fin 4) : ∀ a, (![0, k.val, q.val] : Fin 3 → Nat) a + S1x1x1.size a ≤ S1x96x4.size a := by
  intro a
  match a with
  | ⟨0, _⟩ => exact Nat.le_refl 1
  | ⟨1, _⟩ => exact k.isLt
  | ⟨2, _⟩ => exact q.isLt

/-- Channel `k` is inside the block of the result. -/
theorem inb_channel (k : Fin 96) : ∀ a, (![0, k.val, 0, 0] : Fin 4 → Nat) a + S1x1x64x384.size a ≤ S1x96x64x384.size a := by
  intro a
  match a with
  | ⟨0, _⟩ => exact Nat.le_refl 1
  | ⟨1, _⟩ => exact k.isLt
  | ⟨2, _⟩ => exact Nat.le_refl 64
  | ⟨3, _⟩ => exact Nat.le_refl 384

/-- Plane `q` of the coordinates is inside their block. -/
theorem inb_plane (q : Fin 2) : ∀ a, (![0, q.val, 0, 0] : Fin 4 → Nat) a + S1x1x64x384.size a ≤ S1x2x64x384.size a := by
  intro a
  match a with
  | ⟨0, _⟩ => exact Nat.le_refl 1
  | ⟨1, _⟩ => exact q.isLt
  | ⟨2, _⟩ => exact Nat.le_refl 64
  | ⟨3, _⟩ => exact Nat.le_refl 384

/-- Number `q` of channel `k`, as the body loads it. -/
def number (k : Fin 96) (q : Fin 4) : Elt Ideal .f32 :=
  arg2.view.readAt (Elt Ideal) (Rect.unit (s := S1x96x4) ![0, k.val, q.val] S1x1x1.size (inb_number k q)).toLoadRect
    (harg2.unread x0) (Shape.Idx.first (s := S1x1x1) (numel1_S1x1x1.symm ▸ Nat.one_pos))

/-- Plane `q` of the coordinates, as the body loads it, with the block's two leading axes. -/
def loaded (q : Fin 2) : Vec Ideal S1x1x64x384 .f32 :=
  arg3.view.readAt (Elt Ideal)
    (Rect.unit (s := S1x2x64x384) ![0, q.val, 0, 0] S1x1x64x384.size (inb_plane q)).toLoadRect (harg3.unread x1)

/-- Plane `q` of the coordinates. -/
def plane (q : Fin 2) : FVec Ideal S64x384 .f32 :=
  shapeCast S64x384 (loaded arg3 harg3 x1 q) shapeCasts_S1x1x64x384_S64x384

/-- What the body stores for channel `k`: where, and the rows. -/
def piece (k : Fin 96) : View.Piece (Elt Ideal) S1x96x64x384 .f32 :=
  ⟨Rect.unit (s := S1x96x64x384) ![0, k.val, 0, 0] S1x1x64x384.size (inb_channel k),
    row (plane arg3 harg3 x1 0) (plane arg3 harg3 x1 1) (mulf (plane arg3 harg3 x1 0) (plane arg3 harg3 x1 1))
      (number arg2 harg2 x0 k 0) (number arg2 harg2 x0 k 1) (number arg2 harg2 x0 k 2) (number arg2 harg2 x0 k 3)⟩

/-- THE STORES OF THE BODY, last first: one for each channel. -/
theorem pieces_eq : (kernelRun0_A c i arg2 harg2 arg3 harg3 arg4 harg4 x0 x1).1
    = (List.finRange 96).reverse.map (piece arg2 harg2 arg3 harg3 x0 x1) := rfl

/-- Number `q` of channel `k` is the block's element (0, k, q). -/
theorem number_eq (k : Fin 96) (q : Fin 4) : number arg2 harg2 x0 k q = x0 (ix3 0 k q) := by
  unfold number
  rw [View.readAt_apply, harg2.read_unread]
  congr 1
  funext a
  refine Fin.ext ?_
  match a with
  | ⟨0, _⟩ => rfl
  | ⟨1, _⟩ => rfl
  | ⟨2, _⟩ => rfl

/-- Plane `q` of the coordinates at (r, l) is the block's element (0, q, r, l). -/
theorem plane_apply (q : Fin 2) (r : Fin 64) (l : Fin 384) : plane arg3 harg3 x1 q (ix2 r l) = x1 (ix4 0 q r l) := by
  have e : plane arg3 harg3 x1 q (ix2 r l) = loaded arg3 harg3 x1 q (ix4 0 0 r l) := by
    unfold plane; pointwise
  rw [e]
  unfold loaded
  rw [View.readAt_apply, harg3.read_unread]
  congr 1
  funext a
  refine Fin.ext ?_
  match a with
  | ⟨0, _⟩ => rfl
  | ⟨1, _⟩ => rfl
  | ⟨2, _⟩ => show 0 + 1 * r.val = r.val; omega
  | ⟨3, _⟩ => show 0 + 1 * l.val = l.val; omega

/-- The block of the result, as a function of the two input blocks. -/
def blockOf (y : S1x96x64x384.Idx) : Elt Ideal .f32 :=
  blend (x0 (ix3 0 (y 1) 0)) (x0 (ix3 0 (y 1) 1)) (x0 (ix3 0 (y 1) 2)) (x0 (ix3 0 (y 1) 3))
    (x1 (ix4 0 0 (y 2) (y 3))) (x1 (ix4 0 1 (y 2) (y 3)))

/-- Channel `k`'s piece is placed at channel `k` of the block. -/
theorem piece_emb (k : Fin 96) (r : Fin 64) (l : Fin 384) :
    (piece arg2 harg2 arg3 harg3 x0 x1 k).1.emb (ix4 0 0 r l : S1x1x64x384.Idx) = (ix4 0 k r l : S1x96x64x384.Idx) := by
  funext a
  refine Fin.ext ?_
  match a with
  | ⟨0, _⟩ => rfl
  | ⟨1, _⟩ => rfl
  | ⟨2, _⟩ => show 0 + 1 * r.val = r.val; omega
  | ⟨3, _⟩ => show 0 + 1 * l.val = l.val; omega

/-- Channel `k`'s piece is channel `k` of the block of the result. -/
theorem piece_rows (k : Fin 96) (r : Fin 64) (l : Fin 384) :
    (piece arg2 harg2 arg3 harg3 x0 x1 k).2 (ix4 0 0 r l : S1x1x64x384.Idx)
      = blockOf x0 x1 (ix4 0 k r l : S1x96x64x384.Idx) := by
  refine (row_apply _ _ _ _ _ _ r l).trans ?_
  rw [number_eq, number_eq, number_eq, number_eq, plane_apply, plane_apply]
  rfl

/-- An index of one channel's rows has 0 on its two leading axes. -/
theorem channel_idx (x : S1x1x64x384.Idx) : ∃ (r : Fin 64) (l : Fin 384), x = ix4 0 0 r l := by
  refine ⟨x 2, x 3, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- A piece is the block of the result at the piece's own place. -/
theorem piece_apply (k : Fin 96) (x : (piece arg2 harg2 arg3 harg3 x0 x1 k).1.shape.Idx) :
    (piece arg2 harg2 arg3 harg3 x0 x1 k).2 x = blockOf x0 x1 ((piece arg2 harg2 arg3 harg3 x0 x1 k).1.emb x) := by
  obtain ⟨r, l, hx⟩ := channel_idx x
  subst hx
  exact (piece_rows arg2 harg2 arg3 harg3 x0 x1 k r l).trans (congrArg (blockOf x0 x1) (piece_emb arg2 harg2 arg3 harg3 x0 x1 k r l).symm)

/-- THE BLOCK OF THE RESULT AT AN INDEX: the polynomial of the channel's four numbers and the position's two coordinates. -/
theorem out_apply (y : S1x96x64x384.Idx) :
    out0_A_2 c i arg2 harg2 arg3 harg3 arg4 harg4 x0 x1 y = blockOf x0 x1 y := by
  unfold out0_A_2
  refine View.read_writes_apply_of_pieces _ _ (blockOf x0 x1) _ ?_ y (cover0_A_2 c i arg2 harg2 arg3 harg3 arg4 harg4 x0 x1 y)
  rw [pieces_eq]
  intro p hp
  obtain ⟨k, -, rfl⟩ := List.mem_map.1 hp
  exact piece_apply arg2 harg2 arg3 harg3 x0 x1 k

end Body

end Cert.Proof

end
-- ==== Proof.Array.lean ====
/- Hand-written, untrusted: THE WHOLE ARRAY OF THE KERNEL'S RESULT. The host reshapes the four corner pixels into one axis
   and moves the grid's two coordinates to an axis of planes; the 12 blocks tile the result (`final_eq`): at every index
   the result is the bilinear polynomial of the four corner pixels at the two coordinates. -/
module

public import proofs.«01_k».proof.Proof.Block
public import Idealize.ShloMosaic.Lib.Pipeline.ValueKit
public import Idealize.ShloMosaic.Lib.StableHlo.Run

@[expose] public section

set_option maxRecDepth 16384

noncomputable section

namespace Cert.Proof

open Idealize.ShloMosaic Idealize.ShloMosaic.TcCoe Cert.KernelIdeal Cert.KernelIdeal.Gen
open Idealize.ShloMosaic.StableHlo

/-- The kernel's result, as a function of the image and the grid. -/
def blended (x : FVec Ideal S2x96x384x384 .f32) (g : FVec Ideal S2x384x384x2 .f32) : FVec Ideal S2x96x384x384 .f32 := fun i =>
  blend (x (ix4 (i 0) (i 1) 0 0)) (x (ix4 (i 0) (i 1) 0 1)) (x (ix4 (i 0) (i 1) 1 0)) (x (ix4 (i 0) (i 1) 1 1))
    (g (ix4 (i 0) (i 2) (i 3) 0)) (g (ix4 (i 0) (i 2) (i 3) 1))

variable (m : (ℓ : Loc nD τ sig) → Buf (Elt Ideal) ℓ) (c : Dev nD)

/-- The image, as the run finds it. -/
abbrev imageArg : FVec Ideal S2x96x384x384 .f32 := m ((c.tc : Thread nD τ).loc main_arg0)
/-- The grid, as the run finds it. -/
abbrev gridArg : FVec Ideal S2x384x384x2 .f32 := m ((c.tc : Thread nD τ).loc main_arg1)

/-- The corner pixels, as the host lays them out for the kernel. -/
def corners (x : FVec Ideal S2x96x384x384 .f32) : FVec Ideal S2x96x4 .f32 :=
  shapeCast S2x96x4 (extractStridedSlice S2x96x2x2 ![0, 0, 0, 0] x slices_S2x96x384x384_S2x96x2x2_0_0_0_0)
    shapeCasts_S2x96x2x2_S2x96x4
/-- The planes of coordinates, as the host lays them out for the kernel. -/
def planes (g : FVec Ideal S2x384x384x2 .f32) : FVec Ideal S2x2x384x384 .f32 :=
  transpose S2x2x384x384 [0, 3, 1, 2] g transposes_S2x384x384x2_S2x2x384x384_0_3_1_2

/-- The kernel finds the corner pixels so laid out. -/
theorem V_corners : V m c main_v1 = corners (imageArg m c) := by
  unfold_abbrev_sides
  after_results
  rfl
/-- The kernel finds the planes so laid out. -/
theorem V_planes : V m c main_v2 = planes (gridArg m c) := by
  unfold_abbrev_sides
  after_results
  rfl

/-- Corner pixel number 2 r + l is the pixel at row r and column l. -/
theorem corners_apply (x : FVec Ideal S2x96x384x384 .f32) (n : Fin 2) (ch : Fin 96) :
    corners x (ix3 n ch 0) = x (ix4 n ch 0 0) ∧ corners x (ix3 n ch 1) = x (ix4 n ch 0 1)
      ∧ corners x (ix3 n ch 2) = x (ix4 n ch 1 0) ∧ corners x (ix3 n ch 3) = x (ix4 n ch 1 1) := by
  unfold corners
  refine ⟨?_, ?_, ?_, ?_⟩ <;> pointwise

/-- Plane q at (n, r, l) is coordinate q of position (n, r, l). -/
theorem planes_apply (g : FVec Ideal S2x384x384x2 .f32) (n q : Fin 2) (r l : Fin 384) :
    planes g (ix4 n q r l) = g (ix4 n r l q) := by
  unfold planes; pointwise

/-- The blocks of a grid point: image `t / 6`, and rows from `64 (t % 6)`. -/
theorem idx_facts : ∀ t : Fin cfg0.N,
    win0_0.index t = ![win0_2.index t 0, 0, 0] ∧ win0_1.index t = ![win0_2.index t 0, 0, win0_2.index t 2, 0]
      ∧ win0_2.index t 0 < 2 ∧ win0_2.index t 1 = 0 ∧ win0_2.index t 2 < 6 ∧ win0_2.index t 3 = 0 :=
  (by decide +kernel : ∀ t : Fin grid0.N, _)

/-- The block of corner pixels at a grid point. -/
theorem iblk0_apply (t : Fin cfg0.N) (n : Fin 2) (hn : n.val = win0_2.index t 0) (ch : Fin 96) (q : Fin 4) :
    (iblk m c 0 t : Vec Ideal S1x96x4 .f32) (ix3 0 ch q) = corners (imageArg m c) (ix3 n ch q) := by
  obtain ⟨e0, -, -, -, -, -⟩ := idx_facts t
  rw [← V_corners]
  blk_simp [iblk]
  congr 1
  blk_ext [e0]

/-- The block of coordinates at a grid point. -/
theorem iblk1_apply (t : Fin cfg0.N) (n : Fin 2) (hn : n.val = win0_2.index t 0) (q : Fin 2) (r : Fin 64) (r' : Fin 384)
    (hr : r'.val = win0_2.index t 2 * 64 + r.val) (l : Fin 384) :
    (iblk m c 1 t : Vec Ideal S1x2x64x384 .f32) (ix4 0 q r l) = planes (gridArg m c) (ix4 n q r' l) := by
  obtain ⟨-, e1, -, -, -, -⟩ := idx_facts t
  rw [← V_planes]
  blk_simp [iblk]
  congr 1
  blk_ext [e1]

/-- What the body leaves at a grid point, at an index of the block, is `blended` at that place of the array. -/
theorem out_blended (t : Fin cfg0.N) (ch : Fin 96) (r : Fin 64) (l : Fin 384) (n : Fin 2) (hn : n.val = win0_2.index t 0)
    (r' : Fin 384) (hr : r'.val = win0_2.index t 2 * 64 + r.val) :
    outsAt0 m c t (ix4 0 ch r l) = blended (imageArg m c) (gridArg m c) (ix4 n ch r' l) := by
  unfold outsAt0
  rw [out_apply]
  show blend ((iblk m c 0 t : Vec Ideal S1x96x4 .f32) (ix3 0 ch 0)) ((iblk m c 0 t : Vec Ideal S1x96x4 .f32) (ix3 0 ch 1))
      ((iblk m c 0 t : Vec Ideal S1x96x4 .f32) (ix3 0 ch 2)) ((iblk m c 0 t : Vec Ideal S1x96x4 .f32) (ix3 0 ch 3))
      ((iblk m c 1 t : Vec Ideal S1x2x64x384 .f32) (ix4 0 0 r l)) ((iblk m c 1 t : Vec Ideal S1x2x64x384 .f32) (ix4 0 1 r l)) = _
  obtain ⟨c0, c1, c2, c3⟩ := corners_apply (imageArg m c) n ch
  rw [iblk0_apply m c t n hn, iblk0_apply m c t n hn, iblk0_apply m c t n hn, iblk0_apply m c t n hn,
    iblk1_apply m c t n hn 0 r r' hr l, iblk1_apply m c t n hn 1 r r' hr l, c0, c1, c2, c3, planes_apply, planes_apply]
  rfl

/-- An index of a block of the result has 0 on its first axis. -/
theorem block_idx (y : S1x96x64x384.Idx) : ∃ (ch : Fin 96) (r : Fin 64) (l : Fin 384), y = ix4 0 ch r l := by
  refine ⟨y 1, y 2, y 3, ?_⟩
  funext a
  match a with
  | ⟨0, _⟩ => exact Subsingleton.elim (α := Fin 1) _ _
  | ⟨1, _⟩ => rfl
  | ⟨2, _⟩ => rfl
  | ⟨3, _⟩ => rfl

/-- THE ARRAY AFTER THE RUN is `blended` of the two arguments. -/
theorem final_eq : (dats m 0 c).arrAt 2 cfg0.N = blended (imageArg m c) (gridArg m c) := by
  refine (dats m 0 c).arrAt_eq_of_covers 2 _ (by decide +kernel) fun t hf y => ?_
  blk_simp
  rw [after0_2]
  obtain ⟨ch, r, l, hy⟩ := block_idx y
  subst hy
  obtain ⟨-, -, b0, e1, b2, e3⟩ := idx_facts t
  refine (out_blended m c t ch r l ⟨win0_2.index t 0, b0⟩ rfl ⟨win0_2.index t 2 * 64 + r.val, by omega⟩ rfl).trans ?_
  congr 1
  blk_ext [e1, e3]

end Cert.Proof

end
-- ==== Proof.Equation.lean ====
/- Hand-written, untrusted: THE EQUATION OF THE TWO PROGRAMS. Under the precondition the reference's weighted sum and the
   kernel's bilinear polynomial are one array (`sampled_eq_blended`). -/
module

public import proofs.«01_k».proof.Proof.Range
public import proofs.«01_k».proof.Proof.Reference
public import proofs.«01_k».proof.Proof.Array

@[expose] public section

noncomputable section

namespace Cert.Proof

open Idealize.ShloMosaic Cert.KernelIdeal

/-- The reference's result is the kernel's. -/
theorem sampled_eq_blended {x : FVec Ideal S2x96x384x384 .f32} {g : FVec Ideal S2x384x384x2 .f32}
    (h : Cert.Pre_in_range.fn (F := Ideal) x g = fun _ => 1#1) : sampled x g = blended x g := by
  funext i
  obtain ⟨n, ch, r, l, rfl⟩ : ∃ (n : Fin 2) (ch : Fin 96) (r l : Fin 384), i = ix4 n ch r l := by
    refine ⟨i 0, i 1, i 2, i 3, funext fun a => ?_⟩
    match a with
    | ⟨0, _⟩ | ⟨1, _⟩ | ⟨2, _⟩ | ⟨3, _⟩ => rfl
  exact (sampled_apply (grid_unit h) n r l x ch).trans
    (weighted_eq_blend (corner_finite h n ch 0 0) (corner_finite h n ch 0 1) (corner_finite h n ch 1 0)
      (corner_finite h n ch 1 1) (grid_unit h (ix4 n r l 0)) (grid_unit h (ix4 n r l 1)))

end Cert.Proof

end
-- ==== Proof.lean ====
/- Hand-written, untrusted: THE PROOF OF `Cert.Claim`. The frames of the two kernels are the generated ones; the frame of
   the reference comes from its run, and a program that declares no semaphore has every counter at zero; the equation of
   the two results is `sampled_eq_blended`. -/
module

public import proofs.«01_k».proof.Defs
public import proofs.«01_k».proof.Proof.Gen.Kernel
public import proofs.«01_k».proof.Proof.Gen.KernelIdeal.Value
public import proofs.«01_k».proof.Proof.Gen.ReferenceIdeal.Run
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import Idealize.ShloMosaic.Adequacy
public import Idealize.ShloMosaic.Init
public import Idealize.ShloMosaic.Lib.Quiescent
public import Idealize.ShloMosaic.Lib.StableHlo.RunHlo
public import proofs.«01_k».proof.Proof.Equation

@[expose] public section

noncomputable section

namespace Cert.Proof

open Idealize.ShloMosaic Idealize.SL.Sem Cert.Kernel

/-- The reference ends, changes neither argument, and leaves every semaphore counter at zero. -/
theorem reference_frame : Cert.quiescent_ReferenceIdeal := by
  intro m g _
  exact θ_run_mono (Cert.ReferenceIdeal.Value.run m g) fun r h => ⟨fun c => (h c).2, sem_eq_zero_of_no_sems rfl r.2⟩

/-- From memories that agree on the arguments and meet the precondition, the two programs end with one result. -/
theorem algebraic : Cert.algebraic_KernelIdeal_ReferenceIdeal_pre_in_range := by
  intro m g m' g' hpre hagree
  refine ⟨fun c => blended (imageArg m c) (gridArg m c), ?_, ?_⟩
  · exact θ_run_mono (Cert.KernelIdeal.Value.run_blocks m g) fun r h c => ⟨(h c).1.trans (final_eq m c), (h c).2⟩
  · refine θ_run_mono (Cert.ReferenceIdeal.Value.run m' g') fun r h c => ⟨(h c).1.trans ?_, (h c).2⟩
    refine (res_eq m' c).trans ?_
    rw [(hagree c).1, (hagree c).2]
    exact sampled_eq_blended (hpre c)

/-- Everything claimed. -/
theorem claim : Cert.Claim :=
  ⟨Cert.Kernel.Gen.facts, Cert.KernelIdeal.Gen.facts, Cert.ReferenceIdeal.Gen.facts, Cert.Pre_in_range.Gen.facts,
    fun m g _ => Cert.Kernel.Gen.frame m g, fun m g _ => Cert.KernelIdeal.Gen.frame m g,
    fun m g _ => Cert.KernelIdeal.Gen.frame m g, reference_frame, fun m g _ => reference_frame m g trivial, trivial, algebraic⟩

end Cert.Proof

end
